-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x3072x6400 : Shape := ⟨3, ![1, 3072, 6400]⟩
abbrev S1x3072x1 : Shape := ⟨3, ![1, 3072, 1]⟩
abbrev S6784x6400 : Shape := ⟨2, ![6784, 6400]⟩
abbrev S6784 : Shape := ⟨1, ![6784]⟩
abbrev S3072x6400 : Shape := ⟨2, ![3072, 6400]⟩
abbrev S3072x1 : Shape := ⟨2, ![3072, 1]⟩
abbrev S1x6784 : Shape := ⟨2, ![1, 6784]⟩
abbrev S3072x6784 : Shape := ⟨2, ![3072, 6784]⟩
abbrev S512x6400 : Shape := ⟨2, ![512, 6400]⟩
abbrev S1x512 : Shape := ⟨2, ![1, 512]⟩
abbrev S3072x512 : Shape := ⟨2, ![3072, 512]⟩
abbrev S512x512 : Shape := ⟨2, ![512, 512]⟩
abbrev S512x1 : Shape := ⟨2, ![512, 1]⟩
abbrev S1x3072x6784 : Shape := ⟨3, ![1, 3072, 6784]⟩

abbrev nBuf : Space → Nat
  | .hbm => 9
  | .vmem => 8
  | .smem => 0
  | _ => 0

abbrev bufTy : (tb : Table) → Fin (tcTables nBuf tb) → BufTy
  | .hbm, ⟨0, _⟩ => ⟨S1x3072x6400, .fp8e4m3⟩
  | .hbm, ⟨1, _⟩ => ⟨S1x3072x1, .f32⟩
  | .hbm, ⟨2, _⟩ => ⟨S6784x6400, .fp8e4m3⟩
  | .hbm, ⟨3, _⟩ => ⟨S6784, .f32⟩
  | .hbm, ⟨4, _⟩ => ⟨S3072x6400, .fp8e4m3⟩
  | .hbm, ⟨5, _⟩ => ⟨S3072x1, .f32⟩
  | .hbm, ⟨6, _⟩ => ⟨S1x6784, .f32⟩
  | .hbm, ⟨7, _⟩ => ⟨S3072x6784, .bf16⟩
  | .hbm, ⟨8, _⟩ => ⟨S1x3072x6784, .bf16⟩
  | .local _ .vmem, ⟨0, _⟩ => ⟨S3072x6400, .fp8e4m3⟩
  | .local _ .vmem, ⟨1, _⟩ => ⟨S3072x1, .f32⟩
  | .local _ .vmem, ⟨2, _⟩ => ⟨S512x6400, .fp8e4m3⟩
  | .local _ .vmem, ⟨3, _⟩ => ⟨S512x6400, .fp8e4m3⟩
  | .local _ .vmem, ⟨4, _⟩ => ⟨S1x512, .f32⟩
  | .local _ .vmem, ⟨5, _⟩ => ⟨S1x512, .f32⟩
  | .local _ .vmem, ⟨6, _⟩ => ⟨S3072x512, .bf16⟩
  | .local _ .vmem, ⟨7, _⟩ => ⟨S3072x512, .bf16⟩
  | _, _ => ⟨S1x3072x6400, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![14], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S3072x6400 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S3072x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x6400 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3072x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S1x3072x6400 : Shape := ⟨3, ![1, 3072, 6400]⟩
abbrev S1x3072x1 : Shape := ⟨3, ![1, 3072, 1]⟩
abbrev S6784x6400 : Shape := ⟨2, ![6784, 6400]⟩
abbrev S6784 : Shape := ⟨1, ![6784]⟩
abbrev S1x3072x6784 : Shape := ⟨3, ![1, 3072, 6784]⟩
abbrev S1x1x6784 : Shape := ⟨3, ![1, 1, 6784]⟩

abbrev nBuf : Space → Nat
  | .hbm => 5
  | .vmem => 5
  | .smem => 0
  | _ => 0

abbrev bufTy : (tb : Table) → Fin (tcTables nBuf tb) → BufTy
  | .hbm, ⟨0, _⟩ => ⟨S1x3072x6400, .fp8e4m3⟩
  | .hbm, ⟨1, _⟩ => ⟨S1x3072x1, .f32⟩
  | .hbm, ⟨2, _⟩ => ⟨S6784x6400, .fp8e4m3⟩
  | .hbm, ⟨3, _⟩ => ⟨S6784, .f32⟩
  | .hbm, ⟨4, _⟩ => ⟨S1x3072x6784, .bf16⟩
  | .local _ .vmem, ⟨0, _⟩ => ⟨S1x3072x6400, .fp8e4m3⟩
  | .local _ .vmem, ⟨1, _⟩ => ⟨S1x3072x1, .f32⟩
  | .local _ .vmem, ⟨2, _⟩ => ⟨S6784x6400, .fp8e4m3⟩
  | .local _ .vmem, ⟨3, _⟩ => ⟨S6784, .f32⟩
  | .local _ .vmem, ⟨4, _⟩ => ⟨S1x3072x6784, .bf16⟩
  | _, _ => ⟨S1x3072x6400, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S1x3072x6400 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x3072x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6784x6400 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6784 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x3072x6784 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.KernelFrame.lean ====
/-
  The frame of the kernel, at any float values.

  The kernel runs one grid of fourteen points. At point `t` its buffers hold the whole of `x`, the whole of `x_scale`, rows
  `512 t` to `512 t + 511` of `w` and the same columns of `w_scale`, and it writes columns `512 t` to `512 t + 511` of
  the result. `w` has 6784 rows, so at the last point 128 of those rows lie in the array, and the rest of the buffer holds
  words nothing names. At the word level the matrix product is a function of both whole operands, so this file says
  nothing of what the output's buffer holds: the window of the output is forgotten, and the run states that the kernel
  ends, that its arguments hold what they held and that every counter is at zero.
-/
module

public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import Idealize.ShloMosaic.Lib.Pipeline.FrameBody
public import Idealize.ShloMosaic.Lib.Pipeline.FrameSuffix
public import Idealize.ShloMosaic.Lib.Tactic

@[expose] public section

set_option maxRecDepth 16384

noncomputable section

namespace Cert.Kernel.Body

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body -/

set_option maxHeartbeats 2000000 in
/-- The body on five whole buffers: it ends with the four inputs as they were and the output at some contents. -/
theorem sound_kernel (c : Dev nD) (E : Set ℕ) (i : grid0.Coords)
    (arg1 : Memref sig .tc .vmem S3072x6400 .fp8e4m3) (harg1 : arg1.IsWhole) (arg2 : Memref sig .tc .vmem S3072x1 .f32) (harg2 : arg2.IsWhole)
    (arg3 : Memref sig .tc .vmem S512x6400 .fp8e4m3) (harg3 : arg3.IsWhole) (arg4 : Memref sig .tc .vmem S1x512 .f32) (harg4 : arg4.IsWhole)
    (arg5 : Memref sig .tc .vmem S3072x512 .bf16) (harg5 : arg5.IsWhole)
    (x0 : Vec F S3072x6400 .fp8e4m3) (x1 : Vec F S3072x1 .f32) (x2 : Vec F S512x6400 .fp8e4m3) (x3 : Vec F S1x512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ (∃ d, owns (c : Thread nD τ) arg5 fullShare d)) -∗ K ⟨⟩))
      ⊢ wp frame (wpE (defs₀ (F := F)) Variants.none c none) E (cc0__body i arg1 harg1 arg2 harg2 arg3 harg3 arg4 harg4 arg5 harg5) K := by
  simp only [cc0__body_eq_skeleton, k0_part1_eq_skeleton, k0_part2_eq_skeleton, k0_part3_eq_skeleton, k0_part4_eq_skeleton]; unfold cc0__body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; iexists _; isplitr
  swap; · iexact H4
  ipureintro
  rfl

/-! ## The proof data: the output forgotten -/

/-- What fills the buffer of a cut block past the array's end, where this proof names no contents. -/
abbrev filler (w : Fin cfg0.W) : (cfg0.win w).block.Idx → Elt F (cfg0.win w).elt := fun _ => Classical.arbitrary _

/-- The windows of `w` and `w_scale`, whose buffers hold their blocks filled out past the array's end. -/
abbrev blk2 (c : Dev nD) (t : Fin cfg0.N) : Vec F S512x6400 .fp8e4m3 := win0_2.fill (grid0.coords t) (filler 2) (iblk m c 2 t)
abbrev blk3 (c : Dev nD) (t : Fin cfg0.N) : Vec F S1x512 .f32 := win0_3.fill (grid0.coords t) (filler 3) (iblk m c 3 t)

/-- The proof data on core `c`: the arrays as the region finds them, each input's buffer at its block, the output's at
    contents nothing names. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => blk2 m c t
    | ⟨3, _⟩ => blk3 m c t
    | ⟨4, _⟩ => filler 4
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = blk2 m c t := by dsimp only [dats]
theorem after0_3 (c : Dev nD) (t : Fin cfg0.N) : (dats m 0 c).after 3 t = blk3 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
/-- The buffers of `w` and `w_scale` are fetched at every point. -/
theorem before0_2 (c : Dev nD) (t : Fin cfg0.N) (d) :
    (dats m 0 c).before 2 t d = win0_2.fill (grid0.coords t) d (iblk m c 2 t) := by
  unfold Dat.before; rw [if_pos (fetch0_2 t)]; rfl
theorem before0_3 (c : Dev nD) (t : Fin cfg0.N) (d) :
    (dats m 0 c).before 3 t d = win0_3.fill (grid0.coords t) d (iblk m c 3 t) := by
  unfold Dat.before; rw [if_pos (fetch0_3 t)]; rfl

/-- The window forgotten: the output's. -/
def forgets : Fin 5 → Bool
  | 4 => true
  | _ => false

theorem defs₀_row (t : Fin cfg0.N) :
    defs₀ (F := F) .tc cfg0.body (cfg0.bodyArgs t (cfg0.slots t)) = bodyAt0 t := by
  unfold defs₀; rw [Defs.onTc_tc]

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ X, owns (c : Thread nD τ) (st0_4 t) fullShare X))

/-- and what it returns: the cut blocks are stated on the part inside the array only. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ (∃ d, owns (c : Thread nD τ) (st0_2 t) fullShare (win0_2.fill (grid0.coords t) d (win0_2.cut (grid0.coords t) ((dats m 0 c).after 2 t))))
    ∗ (∃ d, owns (c : Thread nD τ) (st0_3 t) fullShare (win0_3.fill (grid0.coords t) d (win0_3.cut (grid0.coords t) ((dats m 0 c).after 3 t))))
    ∗ (∃ X, owns (c : Thread nD τ) (st0_4 t) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t)
    (win0_2.fill (grid0.coords t) d2 (iblk m c 2 t)) (win0_3.fill (grid0.coords t) d3 (iblk m c 3 t)) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]
  · iexists d2; rw [Window.cut_fill]; iexact H2
  isplitl [H3]
  · iexists d3; rw [Window.cut_fill]; iexact H3
  iexact H4

/-- The obligation of the body at every point. -/
theorem body_obligation (c : Dev nD) :
    BodyObligationLoose (dats (F := F) m 0 c) (defs₀ (F := F)) Variants.none () Set.univ forgets := fun t => by
  rw [bigSep_W0, bigSep_W0, defs₀_row]
  exact triple_restated (sound_body m c t) rfl .rfl fun _ => .rfl

/-! ## The run -/

/-- The one buffer the line after the region writes: the result. -/
def written : Finset (Ref sig .tc) := {main_v4}

theorem tail_written : ∀ ops ∈ ([hostOps1] : List (List (HloOp τ sig (Elt F)))), ∀ op ∈ ops, ∀ b : Ref sig .tc,
    Proc.devRef .tc b ∈ op.writes → b ∈ written := by
  intro ops hops op hop b hb
  simp only [List.mem_cons, List.mem_nil_iff, or_false] at hops
  subst hops
  simp only [hostOps1, List.mem_cons, List.mem_nil_iff, or_false] at hop
  subst hop
  simp only [StableHlo.reshape_writes, Finset.mem_singleton] at hb
  by_contra hne
  exact StableHlo.devRef_ne_of_ne (fun h => hne (by rw [h]; exact Finset.mem_singleton_self _)) hb

set_option backward.isDefEq.respectTransparency.types false in
set_option maxHeartbeats 800000 in
theorem run_main : θ_run defs (onTc (τ := τ) (main (F := F))) (s₀ m ρ)
    (fun r => RDat.FramePostR (cfgs 0) (fun c => (dats m 0 c).toRForget forgets) written (V m) r ∧ r.2.sem = fun _ => 0) :=
  Pipeline.θ_run_frame_around_T_forget (Q' := _) cfgs (dats m) (0 : Fin 1) launch0 defs₀ Variants.none forgets written m ρ main
    (hbody := body_obligation m) (hshare := fun c => (dats m 0 c).share_full fun _ => rfl)
    (howed := fun _ _ => rfl) (V₀ := V0 m) (opss := [hostOps1]) (hsub := sfx_sub) (hfresh := sfx_fresh) (hkeep := sfx_keeps)
    (hT := tail_written) (hmain := hmain m Variants.none) (hA := A_eq m) (hΦ := fun _ _ => rfl) (hQ' := fun _ h => h)

/-- An argument that is no array of the region ends as the region found it. -/
theorem kept {r : PUnit × MemSt nD τ sig (Elt F)}
    (h : RDat.FramePostR (cfgs 0) (fun c => (dats (F := F) m 0 c).toRForget forgets) written (V m) r) (c : Dev nD)
    (b : Ref sig .tc) (hb : b ∈ Pipeline.restRefs sig spec0) (hne : b ∉ written) :
    r.2.mem ((c.tc : Thread nD τ).loc b) = V m c b :=
  (h c).2 b (Finset.mem_sdiff.mpr ⟨hb, hne⟩)

/-- THE FRAME: the kernel ends, its arguments hold what they held, and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
    ⟨(kept m h.1 c main_arg0 (Pipeline.mem_restRefs_of main_arg0 (by decide) (by decide)) (by decide)).trans (V_main_arg0 m c),
     (kept m h.1 c main_arg1 (Pipeline.mem_restRefs_of main_arg1 (by decide) (by decide)) (by decide)).trans (V_main_arg1 m c),
     (RDat.FramePostR.arr_in h.1 c 2 rfl).trans ((A_eq m c 2).trans (V_main_arg2 m c)),
     (kept m h.1 c main_arg3 (Pipeline.mem_restRefs_of main_arg3 (by decide) (by decide)) (by decide)).trans (V_main_arg3 m c)⟩, h.2⟩)
    (run_main m ρ)

end Cert.Kernel.Body

end
-- ==== Proof.Chunk.lean ====
/-
  What one chunk of the body computes, over the extended reals.

  The body treats its 3072 rows in six chunks of 512. A chunk multiplies 512 rows of `x` with the 512 rows of its block of
  `w`, scales by `x_scale` and `w_scale`, applies the tanh form of gelu and narrows to bf16, which over the extended reals
  changes nothing. So element (r, n) of a chunk is
      gelu ((∑ k, x (r, k) · w (n, k)) · x_scale r · w_scale n),
  and it reads of `w` and `w_scale` nothing but row `n`.
-/
module

public import proofs.«01_k».proof.Proof.Gen.KernelIdeal.Skeleton
public import Idealize.ShloMosaic.PureOps.Ideal.Laws
public import Idealize.ShloMosaic.Lib.ValueIdx
public import Idealize.ShloMosaic.Lib.Pipeline.Value

@[expose] public section

set_option maxRecDepth 16384

noncomputable section

namespace Cert.Linear

open Idealize.ShloMosaic Idealize.ShloMosaic.TcCoe
open Idealize.ShloMosaic.ValueIdx

/-- The tanh form of gelu at one extended real, its four constants the words the programs print. -/
def gelu (h : EReal) : EReal :=
  h * (Ideal.ofBits .f32 0x3F000000#32 * (Ideal.ofBits .f32 0x3F800000#32
    + Ideal.tanh (Ideal.ofBits .f32 0x3F4C422A#32 * (h + Ideal.ofBits .f32 0x3D372713#32 * (h * (h * h))))))

/-- The whole result as a function of the four arguments: element (0, r, n) is row `r` of `x` times row `n` of `w`, scaled by
    the scale of each, through gelu. -/
def linear (x : (⟨3, ![1, 3072, 6400]⟩ : Shape).Idx → EReal) (xs : (⟨3, ![1, 3072, 1]⟩ : Shape).Idx → EReal)
    (w : (⟨2, ![6784, 6400]⟩ : Shape).Idx → EReal) (ws : (⟨1, ![6784]⟩ : Shape).Idx → EReal) :
    (⟨3, ![1, 3072, 6784]⟩ : Shape).Idx → EReal := fun i =>
  gelu ((∑ k : Fin 6400, x (ix3 0 (i 1) k) * w (ix2 (i 2) k)) * xs (ix3 0 (i 1) 0) * ws (ix1 (i 2)))

end Cert.Linear

namespace Cert.KernelIdeal.Chunk

open Cert.KernelIdeal Cert.KernelIdeal.Gen
open Idealize.ShloMosaic Idealize.ShloMosaic.TcCoe
open Idealize.ShloMosaic.ValueIdx
open Cert.Linear

/-- The dimension numbers of the body's product: both operands are contracted on their last axis. -/
abbrev D := dot_S512x6400_S512x6400_S512x512_1_1_0_0_n_n

theorem lhs_0 (j : S512x512.Idx) (k : D.contr.Idx) : (D.lhsIdx j k 0 : ℕ) = j 0 := by
  simp [DotDims.lhsIdx, D, dot_S512x6400_S512x6400_S512x512_1_1_0_0_n_n]; rfl
theorem lhs_1 (j : S512x512.Idx) (k : D.contr.Idx) : (D.lhsIdx j k 1 : ℕ) = k ⟨0, by decide⟩ := by
  simp [DotDims.lhsIdx, D, dot_S512x6400_S512x6400_S512x512_1_1_0_0_n_n]; rfl
theorem rhs_0 (j : S512x512.Idx) (k : D.contr.Idx) : (D.rhsIdx j k 0 : ℕ) = j 1 := by
  simp [DotDims.rhsIdx, D, dot_S512x6400_S512x6400_S512x512_1_1_0_0_n_n]; rfl
theorem rhs_1 (j : S512x512.Idx) (k : D.contr.Idx) : (D.rhsIdx j k 1 : ℕ) = k ⟨0, by decide⟩ := by
  simp [DotDims.rhsIdx, D, dot_S512x6400_S512x6400_S512x512_1_1_0_0_n_n]; rfl

/-- The contraction's index is a number below 6400. -/
abbrev contrK : D.contr.Idx ≃ Fin 6400 := contrEquiv1 D 6400 (by rfl) (by rfl)

/-- The product of a chunk at an index: a row of `x` times a row of `w`. -/
theorem product_apply (x w : FVec Ideal S512x6400 .fp8e4m3) (j : S512x512.Idx) :
    FloatOps.matmul D none x w (constant S512x512 .f32 0x00000000#32) j
      = ∑ k : Fin 6400, x (ix2 (j 0) k) * w (ix2 (j 1) k) := by
  rw [Ideal.matmul_constant_zero_apply, ← Equiv.sum_comp contrK.symm]
  refine Finset.sum_congr rfl fun k _ => ?_
  have hl : D.lhsIdx j (contrK.symm k) = ix2 (j 0) k :=
    Shape.idx_ext₂ (lhs_0 j _) ((lhs_1 j _).trans (contrEquiv1_symm_val D 6400 _ _ k))
  have hr : D.rhsIdx j (contrK.symm k) = ix2 (j 1) k :=
    Shape.idx_ext₂ (rhs_0 j _) ((rhs_1 j _).trans (contrEquiv1_symm_val D 6400 _ _ k))
  rw [hl, hr]
  rfl

/-- One chunk, element by element. -/
theorem pay_apply (ws : Vec Ideal S1x512 .f32) (x w : Vec Ideal S512x6400 .fp8e4m3) (xs : Vec Ideal S512x1 .f32) (j : S512x512.Idx) :
    k0_pay2 (F := Ideal) ws x w xs j
      = gelu ((∑ k : Fin 6400, x (ix2 (j 0) k) * w (ix2 (j 1) k)) * xs (ix2 (j 0) 0) * ws (ix2 0 (j 1))) := by
  have hx : shapeCast S512x6400 x shapeCasts_S512x6400_S512x6400 = x :=
    funext fun i => shapeCast_apply x _ i i rfl
  have hxs : shapeCast S512x1 xs shapeCasts_S512x1_S512x1 = xs :=
    funext fun i => shapeCast_apply xs _ i i rfl
  have hws : k0_pay1 (F := Ideal) ws = ws :=
    funext fun i => shapeCast_apply ws _ i i rfl
  have bxs : broadcastTo S512x512 xs broadcasts_S512x1_S512x512 j = xs (ix2 (j 0) 0) :=
    broadcastTo_apply xs _ j _ fun a => by match a with | ⟨0, _⟩ => rfl | ⟨1, _⟩ => rfl
  have bws : broadcastTo S512x512 ws broadcasts_S1x512_S512x512 j = ws (ix2 0 (j 1)) :=
    broadcastTo_apply ws _ j _ fun a => by match a with | ⟨0, _⟩ => rfl | ⟨1, _⟩ => rfl
  have hp := product_apply x w j
  unfold k0_pay2
  rw [hx, hxs, hws, ← hp, ← bxs, ← bws]
  rfl

end Cert.KernelIdeal.Chunk

end
-- ==== Proof.IdealBody.lean ====
/-
  The body of the idealized kernel, and its run.

  The body, on five whole buffers, leaves the inputs as they were and writes the output's buffer in six chunks of 512
  rows. Over the extended reals its element (r, n) is
      gelu ((∑ k, x (r, k) · w (n, k)) · x_scale r · w_scale n)
  of the four buffers (`out_apply`). At the last of the fourteen points the buffers of `w` and `w_scale` hold 128 rows of
  their arrays, and past those words nothing names. The columns that the output's block shares with its array are
  exactly the columns computed from rows inside the arrays (`out_cut`), so what is written back does not depend on the
  words nothing names.
-/
module

public import proofs.«01_k».proof.Proof.Chunk
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameSuffix
public import Idealize.ShloMosaic.Lib.Pipeline.Value
public import Idealize.ShloMosaic.Lib.Tactic

@[expose] public section

set_option maxRecDepth 16384

noncomputable section

namespace Cert.KernelIdeal.Body

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

section AnyFloats

variable {F : FTy → Type} [FloatOps F]

local notation "𝕄" => MT nD τ sig Unit (Elt F) ℕ (UR sig nD τ) ℕ

/-! ## What the body leaves in the output's buffer -/

/-- The 512 rows from row `o` of the buffers of `x`, `x_scale` and the output, and the whole buffers of `w` and `w_scale`. -/
abbrev rowsX (o : ℕ) (h : ∀ a, (![o, 0] : Fin 2 → ℕ) a + S512x6400.size a ≤ S3072x6400.size a) : Rect S3072x6400 :=
  Rect.unit (s := S3072x6400) ![o, 0] S512x6400.size h
abbrev rowsS (o : ℕ) (h : ∀ a, (![o, 0] : Fin 2 → ℕ) a + S512x1.size a ≤ S3072x1.size a) : Rect S3072x1 :=
  Rect.unit (s := S3072x1) ![o, 0] S512x1.size h
abbrev rowsO (o : ℕ) (h : ∀ a, (![o, 0] : Fin 2 → ℕ) a + S512x512.size a ≤ S3072x512.size a) : Rect S3072x512 :=
  Rect.unit (s := S3072x512) ![o, 0] S512x512.size h
abbrev allW : Rect S512x6400 := Rect.unit (s := S512x6400) ![0, 0] S512x6400.size inb_S512x6400_S512x6400_0_0
abbrev allWs : Rect S1x512 := Rect.unit (s := S1x512) ![0, 0] S1x512.size inb_S1x512_S1x512_0_0

/-- The chunk stored at row `o`. The printed body names the same value in several ways (its scale and the argument of
    its gelu bound apart in some chunks); by unfolding they are all the first chunk's. -/
def piece (o : ℕ) (hx : ∀ a, (![o, 0] : Fin 2 → ℕ) a + S512x6400.size a ≤ S3072x6400.size a)
    (hs : ∀ a, (![o, 0] : Fin 2 → ℕ) a + S512x1.size a ≤ S3072x1.size a)
    (ho : ∀ a, (![o, 0] : Fin 2 → ℕ) a + S512x512.size a ≤ S3072x512.size a)
    (x0 : Vec F S3072x6400 .fp8e4m3) (x1 : Vec F S3072x1 .f32) (x2 : Vec F S512x6400 .fp8e4m3) (x3 : Vec F S1x512 .f32) :
    View.Piece (Elt F) S3072x512 .bf16 :=
  ⟨rowsO o ho, k0_pay2 (View.ld x3 allWs) (View.ld x0 (rowsX o hx)) (View.ld x2 allW) (View.ld x1 (rowsS o hs))⟩

/-- The six chunks, the last stored first in the list. -/
def pieces (x0 : Vec F S3072x6400 .fp8e4m3) (x1 : Vec F S3072x1 .f32) (x2 : Vec F S512x6400 .fp8e4m3) (x3 : Vec F S1x512 .f32) :
    List (View.Piece (Elt F) S3072x512 .bf16) :=
  [piece 2560 inb_S3072x6400_S512x6400_2560_0 inb_S3072x1_S512x1_2560_0 inb_S3072x512_S512x512_2560_0 x0 x1 x2 x3,
   piece 2048 inb_S3072x6400_S512x6400_2048_0 inb_S3072x1_S512x1_2048_0 inb_S3072x512_S512x512_2048_0 x0 x1 x2 x3,
   piece 1536 inb_S3072x6400_S512x6400_1536_0 inb_S3072x1_S512x1_1536_0 inb_S3072x512_S512x512_1536_0 x0 x1 x2 x3,
   piece 1024 inb_S3072x6400_S512x6400_1024_0 inb_S3072x1_S512x1_1024_0 inb_S3072x512_S512x512_1024_0 x0 x1 x2 x3,
   piece 512 inb_S3072x6400_S512x6400_512_0 inb_S3072x1_S512x1_512_0 inb_S3072x512_S512x512_512_0 x0 x1 x2 x3,
   piece 0 inb_S3072x6400_S512x6400_0_0 inb_S3072x1_S512x1_0_0 inb_S3072x512_S512x512_0_0 x0 x1 x2 x3]

/-- What the output's buffer holds after the body, of what the inputs' buffers hold. -/
def out (x0 : Vec F S3072x6400 .fp8e4m3) (x1 : Vec F S3072x1 .f32) (x2 : Vec F S512x6400 .fp8e4m3) (x3 : Vec F S1x512 .f32) :
    Vec F S3072x512 .bf16 := View.canon (pieces x0 x1 x2 x3)

/-- The six chunks cover the buffer. -/
theorem cover (x0 : Vec F S3072x6400 .fp8e4m3) (x1 : Vec F S3072x1 .f32) (x2 : Vec F S512x6400 .fp8e4m3) (x3 : Vec F S1x512 .f32)
    (y : S3072x512.Idx) : ∃ pc ∈ pieces x0 x1 x2 x3, y ∈ pc.1.set :=
  View.cover_of_tiled (pieces x0 x1 x2 x3) S512x512.size (by rfl) y

/-! ## The body -/

set_option maxHeartbeats 2000000 in
/-- The body on five whole buffers: it ends with the four inputs as they were and the output at its six chunks. -/
theorem sound_kernel (c : Dev nD) (E : Set ℕ) (i : grid0.Coords)
    (arg1 : Memref sig .tc .vmem S3072x6400 .fp8e4m3) (harg1 : arg1.IsWhole) (arg2 : Memref sig .tc .vmem S3072x1 .f32) (harg2 : arg2.IsWhole)
    (arg3 : Memref sig .tc .vmem S512x6400 .fp8e4m3) (harg3 : arg3.IsWhole) (arg4 : Memref sig .tc .vmem S1x512 .f32) (harg4 : arg4.IsWhole)
    (arg5 : Memref sig .tc .vmem S3072x512 .bf16) (harg5 : arg5.IsWhole)
    (x0 : Vec F S3072x6400 .fp8e4m3) (x1 : Vec F S3072x1 .f32) (x2 : Vec F S512x6400 .fp8e4m3) (x3 : Vec F S1x512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out x0 x1 x2 x3)) -∗ K ⟨⟩))
      ⊢ wp frame (wpE (defs₀ (F := F)) Variants.none c none) E (cc0__body i arg1 harg1 arg2 harg2 arg3 harg3 arg4 harg4 arg5 harg5) K := by
  simp only [cc0__body_eq_skeleton, k0_part1_eq_skeleton, k0_part2_eq_skeleton, k0_part3_eq_skeleton, k0_part4_eq_skeleton]; unfold cc0__body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover _ _ _ _)

end AnyFloats

end Cert.KernelIdeal.Body

end
-- ==== Proof.IdealRun.lean ====
/-
  The run of the idealized kernel.

  Over the extended reals element (r, n) of the output's buffer after the body is
      gelu ((∑ k, x (r, k) · w (n, k)) · x_scale r · w_scale n)
  of the four input buffers (`out_apply`). At the last of the fourteen points the buffers of `w` and `w_scale` hold 128 rows
  of their arrays, and past those words nothing names. The columns that the output's block shares with its array are
  exactly the columns computed from rows inside the arrays, so what is written back does not depend on the words
  nothing names (`out_cut`). With that the run names the result array.
-/
module

public import proofs.«01_k».proof.Proof.Chunk
public import proofs.«01_k».proof.Proof.IdealBody
public import Idealize.ShloMosaic.Lib.Claim
public import Idealize.ShloMosaic.Lib.ValueIdx

@[expose] public section

set_option maxRecDepth 16384

noncomputable section

namespace Cert.KernelIdeal.Body

open Cert.KernelIdeal Cert.KernelIdeal.Gen
open Cert.Linear

open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

local notation "𝕄" => MT nD τ sig Unit (Elt Ideal) ℕ (UR sig nD τ) ℕ

variable (m : (ℓ : Loc nD τ sig) → Buf (Elt Ideal) ℓ) (ρ : Dev nD → PrngReg)

/-! ## The output's buffer, element by element -/

/-- A row of `x` times a row of `w`, scaled, through gelu: element `y` of a block with `x`, `x_scale`, `w`, `w_scale` at hand. -/
def entry {R N : ℕ} (x0 : (⟨2, ![R, 6400]⟩ : Shape).Idx → EReal) (x1 : (⟨2, ![R, 1]⟩ : Shape).Idx → EReal)
    (x2 : (⟨2, ![N, 6400]⟩ : Shape).Idx → EReal) (x3 : (⟨2, ![1, N]⟩ : Shape).Idx → EReal) (r : Fin R) (n : Fin N) : EReal :=
  gelu ((∑ k : Fin 6400, x0 (ix2 r k) * x2 (ix2 n k)) * x1 (ix2 r 0) * x3 (ix2 0 n))

/-- Two entries agree when the row of `x`, the scale of that row, the row of `w` and the scale of that row do. -/
theorem entry_congr {R N R' N' : ℕ} {x0 : (⟨2, ![R, 6400]⟩ : Shape).Idx → EReal} {x1 : (⟨2, ![R, 1]⟩ : Shape).Idx → EReal}
    {x2 : (⟨2, ![N, 6400]⟩ : Shape).Idx → EReal} {x3 : (⟨2, ![1, N]⟩ : Shape).Idx → EReal} {r : Fin R} {n : Fin N}
    {x0' : (⟨2, ![R', 6400]⟩ : Shape).Idx → EReal} {x1' : (⟨2, ![R', 1]⟩ : Shape).Idx → EReal}
    {x2' : (⟨2, ![N', 6400]⟩ : Shape).Idx → EReal} {x3' : (⟨2, ![1, N']⟩ : Shape).Idx → EReal} {r' : Fin R'} {n' : Fin N'}
    (h0 : ∀ k, x0 (ix2 r k) = x0' (ix2 r' k)) (h1 : x1 (ix2 r 0) = x1' (ix2 r' 0))
    (h2 : ∀ k, x2 (ix2 n k) = x2' (ix2 n' k)) (h3 : x3 (ix2 0 n) = x3' (ix2 0 n')) :
    entry x0 x1 x2 x3 r n = entry x0' x1' x2' x3' r' n' := by
  unfold entry
  rw [h1, h3, Finset.sum_congr rfl fun k _ => by rw [h0 k, h2 k]]

/-- A chunk holds the block's entries on its own rows. -/
theorem piece_apply (o : ℕ) (hx hs ho) (x0 : Vec Ideal S3072x6400 .fp8e4m3) (x1 : Vec Ideal S3072x1 .f32)
    (x2 : Vec Ideal S512x6400 .fp8e4m3) (x3 : Vec Ideal S1x512 .f32) (j : S512x512.Idx) :
    (piece (F := Ideal) o hx hs ho x0 x1 x2 x3).2 j
      = entry x0 x1 x2 x3 ((rowsO o ho).emb j 0) ((rowsO o ho).emb j 1) := by
  refine (Chunk.pay_apply _ _ _ _ j).trans ?_
  refine entry_congr (r := j 0) (n := j 1) (x0 := View.ld x0 (rowsX o hx)) (x1 := View.ld x1 (rowsS o hs)) (x2 := View.ld x2 allW)
    (x3 := View.ld x3 allWs) (fun k => congrArg x0 ?_) (congrArg x1 ?_) (fun k => congrArg x2 ?_) (congrArg x3 ?_)
  · exact Shape.idx_ext₂ rfl (show 0 + 1 * k.val = k.val by omega)
  · exact Shape.idx_ext₂ rfl rfl
  · exact Shape.idx_ext₂ rfl (show 0 + 1 * k.val = k.val by omega)
  · exact Shape.idx_ext₂ rfl rfl

/-- So the buffer holds the block's entries. -/
theorem out_apply (x0 : Vec Ideal S3072x6400 .fp8e4m3) (x1 : Vec Ideal S3072x1 .f32)
    (x2 : Vec Ideal S512x6400 .fp8e4m3) (x3 : Vec Ideal S1x512 .f32) (y : S3072x512.Idx) :
    out (F := Ideal) x0 x1 x2 x3 y = entry x0 x1 x2 x3 (y 0) (y 1) := by
  refine View.canon_apply_of_pieces (fun y => entry x0 x1 x2 x3 (y 0) (y 1)) (pieces x0 x1 x2 x3) ?_ y (cover _ _ _ _ y)
  intro p hp
  simp only [pieces, List.mem_cons, List.mem_nil_iff, or_false] at hp
  rcases hp with rfl | rfl | rfl | rfl | rfl | rfl <;> exact piece_apply _ _ _ _ _ _ _ _

/-! ## The cut blocks -/

/-- How much of each cut block lies in its array: at point `t` the rows (columns) below 6784 of the 512 from `512 t` on. -/
theorem sizes : ∀ t : Fin cfg0.N,
    win0_2.xsize (grid0.coords t) 0 = min 512 (6784 - 512 * t.val) ∧ win0_2.xsize (grid0.coords t) 1 = 6400
    ∧ win0_3.xsize (grid0.coords t) 0 = 1 ∧ win0_3.xsize (grid0.coords t) 1 = min 512 (6784 - 512 * t.val)
    ∧ win0_4.xsize (grid0.coords t) 0 = 3072 ∧ win0_4.xsize (grid0.coords t) 1 = min 512 (6784 - 512 * t.val) :=
  (by decide +kernel : ∀ t : Fin grid0.N, _)

/-- A filled block read inside its array holds what was filled in. -/
theorem fill_of_lt {g : Pipeline.Grid} (w : Window sig g) {α : Type} (i : g.Coords) (d : w.block.Idx → α) (b : (w.xblock i).Idx → α)
    (j : w.block.Idx) (h : ∀ a, (j a).val < w.xsize i a) : w.fill i d b j = b fun a => ⟨(j a).val, h a⟩ := by
  unfold Window.fill
  rw [dif_pos ((w.moved_iff i j).mpr h)]

/-- Rows below `min 512 (6784 - 512 t)` of the block of `w` lie in the array, -/
theorem lt2 (t : Fin cfg0.N) (n : Fin 512) (k : Fin 6400) (hn : n.val < min 512 (6784 - 512 * t.val)) :
    ∀ a : Fin 2, (ix2 n k a).val < win0_2.xsize (grid0.coords t) a :=
  Fin.forall_fin_two.mpr ⟨lt_of_lt_of_eq hn (sizes t).1.symm, lt_of_lt_of_eq k.isLt (sizes t).2.1.symm⟩

/-- and so do the columns below it of the block of `w_scale`. -/
theorem lt3 (t : Fin cfg0.N) (n : Fin 512) (hn : n.val < min 512 (6784 - 512 * t.val)) :
    ∀ a : Fin 2, (ix2 (0 : Fin 1) n a).val < win0_3.xsize (grid0.coords t) a :=
  Fin.forall_fin_two.mpr ⟨lt_of_lt_of_eq Nat.one_pos (sizes t).2.2.1.symm, lt_of_lt_of_eq hn (sizes t).2.2.2.1.symm⟩

/-- A column of the part of the output's block inside the array is below what lies in the array of `w`'s block. -/
theorem col_lt (t : Fin cfg0.N) (j : (win0_4.xblock (grid0.coords t)).Idx) :
    ((win0_4.xinj (grid0.coords t) j 1 : Fin 512)).val < min 512 (6784 - 512 * t.val) :=
  lt_of_lt_of_eq (j 1).isLt (sizes t).2.2.2.2.2

/-- What is written back does not depend on the words past the ends of the arrays of `w` and `w_scale`. -/
theorem out_cut (t : Fin cfg0.N) (x0 : Vec Ideal S3072x6400 .fp8e4m3) (x1 : Vec Ideal S3072x1 .f32)
    (d2 d2' : Vec Ideal S512x6400 .fp8e4m3) (b2 : (win0_2.xblock (grid0.coords t)).Idx → Elt Ideal win0_2.elt)
    (d3 d3' : Vec Ideal S1x512 .f32) (b3 : (win0_3.xblock (grid0.coords t)).Idx → Elt Ideal win0_3.elt) :
    win0_4.cut (grid0.coords t) (out (F := Ideal) x0 x1 (win0_2.fill (grid0.coords t) d2 b2) (win0_3.fill (grid0.coords t) d3 b3))
      = win0_4.cut (grid0.coords t) (out (F := Ideal) x0 x1 (win0_2.fill (grid0.coords t) d2' b2) (win0_3.fill (grid0.coords t) d3' b3)) := by
  funext j
  show out _ _ _ _ (win0_4.xinj (grid0.coords t) j) = out _ _ _ _ (win0_4.xinj (grid0.coords t) j)
  rw [out_apply, out_apply]
  have hn := col_lt t j
  generalize (win0_4.xinj (grid0.coords t) j 1 : Fin 512) = n at hn ⊢
  generalize (win0_4.xinj (grid0.coords t) j 0 : Fin 3072) = r
  exact entry_congr (fun _ => rfl) rfl
    (fun k => (fill_of_lt win0_2 _ d2 b2 (ix2 n k) (lt2 t n k hn)).trans (fill_of_lt win0_2 _ d2' b2 (ix2 n k) (lt2 t n k hn)).symm)
    ((fill_of_lt win0_3 _ d3 b3 (ix2 0 n) (lt3 t n hn)).trans (fill_of_lt win0_3 _ d3' b3 (ix2 0 n) (lt3 t n hn)).symm)

/-! ## The proof data -/

/-- What fills the buffer of a cut block past the array's end, where this proof names no contents. -/
abbrev filler (w : Fin cfg0.W) : (cfg0.win w).block.Idx → Elt Ideal (cfg0.win w).elt := fun _ => Classical.arbitrary _

/-- The windows of `w` and `w_scale`, whose buffers hold their blocks filled out past the array's end. -/
abbrev blk2 (c : Dev nD) (t : Fin cfg0.N) : Vec Ideal S512x6400 .fp8e4m3 := win0_2.fill (grid0.coords t) (filler 2) (iblk m c 2 t)
abbrev blk3 (c : Dev nD) (t : Fin cfg0.N) : Vec Ideal S1x512 .f32 := win0_3.fill (grid0.coords t) (filler 3) (iblk m c 3 t)

/-- The proof data on core `c`: the arrays as the region finds them, each input's buffer at its block, the output's at
    what the body computes from those blocks. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => blk2 m c t
    | ⟨3, _⟩ => blk3 m c t
    | ⟨4, _⟩ => out (iblk m c 0 t) (iblk m c 1 t) (blk2 m c t) (blk3 m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = blk2 m c t := by dsimp only [dats]
theorem after0_3 (c : Dev nD) (t : Fin cfg0.N) : (dats m 0 c).after 3 t = blk3 m c t := by dsimp only [dats]
theorem after0_4 (c : Dev nD) (t : Fin cfg0.N) :
    (dats m 0 c).after 4 t = out (iblk m c 0 t) (iblk m c 1 t) (blk2 m c t) (blk3 m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
/-- The buffers of `w` and `w_scale` are fetched at every point. -/
theorem before0_2 (c : Dev nD) (t : Fin cfg0.N) (d) :
    (dats m 0 c).before 2 t d = win0_2.fill (grid0.coords t) d (iblk m c 2 t) := by
  unfold Dat.before; rw [if_pos (fetch0_2 t)]; rfl
theorem before0_3 (c : Dev nD) (t : Fin cfg0.N) (d) :
    (dats m 0 c).before 3 t d = win0_3.fill (grid0.coords t) d (iblk m c 3 t) := by
  unfold Dat.before; rw [if_pos (fetch0_3 t)]; rfl

theorem defs₀_row (t : Fin cfg0.N) :
    defs₀ (F := Ideal) .tc cfg0.body (cfg0.bodyArgs t (cfg0.slots t)) = bodyAt0 t := by
  unfold defs₀; rw [Defs.onTc_tc]

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns: the cut blocks are stated on the part inside the array only. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ (∃ d, owns (c : Thread nD τ) (st0_2 t) fullShare (win0_2.fill (grid0.coords t) d (win0_2.cut (grid0.coords t) ((dats m 0 c).after 2 t))))
    ∗ (∃ d, owns (c : Thread nD τ) (st0_3 t) fullShare (win0_3.fill (grid0.coords t) d (win0_3.cut (grid0.coords t) ((dats m 0 c).after 3 t))))
    ∗ (∃ d, owns (c : Thread nD τ) (st0_4 t) fullShare (win0_4.fill (grid0.coords t) d (win0_4.cut (grid0.coords t) ((dats m 0 c).after 4 t)))))

theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t)
    (win0_2.fill (grid0.coords t) d2 (iblk m c 2 t)) (win0_3.fill (grid0.coords t) d3 (iblk m c 3 t)) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]
  · iexists d2; rw [Window.cut_fill]; iexact H2
  isplitl [H3]
  · iexists d3; rw [Window.cut_fill]; iexact H3
  iexists (out (iblk m c 0 t) (iblk m c 1 t) (win0_2.fill (grid0.coords t) d2 (iblk m c 2 t)) (win0_3.fill (grid0.coords t) d3 (iblk m c 3 t)))
  rw [out_cut t _ _ (filler 2) d2 _ (filler 3) d3 _, Window.fill_cut]; iexact H4

/-- The obligation of the body at every point. -/
theorem body_obligation (c : Dev nD) :
    BodyObligationLoose (dats m 0 c) (defs₀ (F := Ideal)) Variants.none () Set.univ := fun t => by
  rw [bigSep_W0, bigSep_W0, defs₀_row]
  exact triple_restated (sound_body m c t) rfl .rfl fun _ => .rfl

/-! ## The run -/

set_option backward.isDefEq.respectTransparency.types false in
set_option maxHeartbeats 800000 in
theorem run_main : θ_run defs (onTc (τ := τ) (main (F := Ideal))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := body_obligation m) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl) (hQ' := fun _ h => h)

/-- THE FRAME: the idealized kernel ends, its arguments hold what they held, and every counter is at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Body

end
-- ==== Proof.KernelValue.lean ====
/-
  The array the idealized kernel ends with.

  Each point writes back its block of ONE array, whose element (r, n) is
      gelu ((∑ k, x (r, k) · w (n, k)) · x_scale r · w_scale n),
  and the fourteen blocks cover the array (`final`). The host lines around the kernel only add or drop an axis of
  length one, so element (0, r, n) of the result is that formula of the arguments as launched (`run`).
-/
module

public import proofs.«01_k».proof.Proof.IdealRun
public import Idealize.ShloMosaic.Lib.Pipeline.Value

@[expose] public section

set_option maxRecDepth 16384

noncomputable section

namespace Cert.KernelIdeal.Body

open Cert.KernelIdeal Cert.KernelIdeal.Gen
open Cert.Linear

open Idealize.ShloMosaic Idealize.ShloMosaic.TcCoe
open Idealize.ShloMosaic.ValueIdx
open Idealize.SL.Sem
open Idealize.ShloMosaic.Pipeline (Dat Cfg Window)

variable (m : (ℓ : Loc nD τ sig) → Buf (Elt Ideal) ℓ) (ρ : Dev nD → PrngReg)

/-! ## Where the blocks lie -/

/-- The block of each window at point `t` starts here: `x` and `x_scale` whole, the others at row or column `512 t`. -/
theorem starts : ∀ t : Fin cfg0.N,
    (win0_0.index t 0 * win0_0.size 0 = 0 ∧ win0_0.index t 1 * win0_0.size 1 = 0)
    ∧ (win0_1.index t 0 * win0_1.size 0 = 0 ∧ win0_1.index t 1 * win0_1.size 1 = 0)
    ∧ (win0_2.index t 0 * win0_2.size 0 = 512 * t.val ∧ win0_2.index t 1 * win0_2.size 1 = 0)
    ∧ (win0_3.index t 0 * win0_3.size 0 = 0 ∧ win0_3.index t 1 * win0_3.size 1 = 512 * t.val)
    ∧ (win0_4.index t 0 * win0_4.size 0 = 0 ∧ win0_4.index t 1 * win0_4.size 1 = 512 * t.val) :=
  (by decide +kernel : ∀ t : Fin grid0.N, _)

/-- The whole array: its element (r, n) from the four arrays as the kernel finds them. -/
def whole (c : Dev nD) : S3072x6784.Idx → EReal := fun i =>
  entry (V m c main_v0 : S3072x6400.Idx → EReal) (V m c main_v1 : S3072x1.Idx → EReal)
    (V m c main_arg2 : S6784x6400.Idx → EReal) (V m c main_v2 : S1x6784.Idx → EReal) (i 0) (i 1)

/-- Reading `x` at point `t` reads the array at the same place, -/
theorem iblk0_apply (c : Dev nD) (t : Fin cfg0.N) (r : Fin 3072) (k : Fin 6400) :
    iblk m c 0 t (ix2 r k) = V m c main_v0 (ix2 r k) := by
  show V m c main_v0 (((cfg0.win 0).blk t).view.emb (ix2 r k)) = _
  refine congrArg (V m c main_v0) (Shape.idx_ext₂ ?_ ?_)
  · show win0_0.index t 0 * win0_0.size 0 + 1 * r.val = r.val
    rw [(starts t).1.1]; omega
  · show win0_0.index t 1 * win0_0.size 1 + 1 * k.val = k.val
    rw [(starts t).1.2]; omega

/-- so does reading `x_scale`, -/
theorem iblk1_apply (c : Dev nD) (t : Fin cfg0.N) (r : Fin 3072) :
    iblk m c 1 t (ix2 r 0) = V m c main_v1 (ix2 r 0) := by
  show V m c main_v1 (((cfg0.win 1).blk t).view.emb (ix2 r 0)) = _
  refine congrArg (V m c main_v1) (Shape.idx_ext₂ ?_ ?_)
  · show win0_1.index t 0 * win0_1.size 0 + 1 * r.val = r.val
    rw [(starts t).2.1.1]; omega
  · show win0_1.index t 1 * win0_1.size 1 + 1 * 0 = 0
    rw [(starts t).2.1.2]

/-- row `n` of the block of `w` is row `512 t + n` of the array, -/
theorem blk2_apply (c : Dev nD) (t : Fin cfg0.N) (n : Fin 512) (k : Fin 6400) (hn : n.val < min 512 (6784 - 512 * t.val))
    (n' : Fin 6784) (hn' : n'.val = 512 * t.val + n.val) : blk2 m c t (ix2 n k) = V m c main_arg2 (ix2 n' k) := by
  refine (fill_of_lt win0_2 _ _ _ (ix2 n k) (lt2 t n k hn)).trans ?_
  show V m c main_arg2 (((cfg0.win 2).blk t).view.emb _) = _
  refine congrArg (V m c main_arg2) (Shape.idx_ext₂ ?_ ?_)
  · show win0_2.index t 0 * win0_2.size 0 + 1 * n.val = n'.val
    rw [(starts t).2.2.1.1]; omega
  · show win0_2.index t 1 * win0_2.size 1 + 1 * k.val = k.val
    rw [(starts t).2.2.1.2]; omega

/-- and likewise the columns of the block of `w_scale`. -/
theorem blk3_apply (c : Dev nD) (t : Fin cfg0.N) (n : Fin 512) (hn : n.val < min 512 (6784 - 512 * t.val))
    (n' : Fin 6784) (hn' : n'.val = 512 * t.val + n.val) : blk3 m c t (ix2 0 n) = V m c main_v2 (ix2 0 n') := by
  refine (fill_of_lt win0_3 _ _ _ (ix2 0 n) (lt3 t n hn)).trans ?_
  show V m c main_v2 (((cfg0.win 3).blk t).view.emb _) = _
  refine congrArg (V m c main_v2) (Shape.idx_ext₂ ?_ ?_)
  · show win0_3.index t 0 * win0_3.size 0 + 1 * 0 = 0
    rw [(starts t).2.2.2.1.1]
  · show win0_3.index t 1 * win0_3.size 1 + 1 * n.val = n'.val
    rw [(starts t).2.2.2.1.2]; omega

/-! ## The result array -/

/-- What a point writes back is its block of the whole array. -/
theorem flushed_eq (c : Dev nD) (t : Fin cfg0.N) :
    (dats m 0 c).flushed 4 t = ((cfg0.win 4).blk t).view.read (Elt Ideal) (whole m c) := by
  show win0_4.cut (grid0.coords t) ((dats m 0 c).after 4 t) = _
  rw [after0_4]
  funext j
  show out (F := Ideal) _ _ _ _ (win0_4.xinj (grid0.coords t) j) = whole m c (((cfg0.win 4).blk t).view.emb j)
  rw [out_apply]
  have hn := col_lt t j
  have e0 : ((((cfg0.win 4).blk t).view.emb j 0 : Fin 3072)) = (win0_4.xinj (grid0.coords t) j 0 : Fin 3072) := Fin.ext (by
    show win0_4.index t 0 * win0_4.size 0 + 1 * (j 0).val = (j 0).val
    rw [(starts t).2.2.2.2.1]; omega)
  have e1 : ((((cfg0.win 4).blk t).view.emb j 1 : Fin 6784)).val = 512 * t.val + (win0_4.xinj (grid0.coords t) j 1 : Fin 512).val := by
    show win0_4.index t 1 * win0_4.size 1 + 1 * (j 1).val = 512 * t.val + (j 1).val
    rw [(starts t).2.2.2.2.2]; omega
  unfold whole
  rw [e0]
  generalize (((cfg0.win 4).blk t).view.emb j 1 : Fin 6784) = n' at e1 ⊢
  generalize (win0_4.xinj (grid0.coords t) j 1 : Fin 512) = n at hn e1 ⊢
  generalize (win0_4.xinj (grid0.coords t) j 0 : Fin 3072) = r
  exact entry_congr (fun k => iblk0_apply m c t r k) (iblk1_apply m c t r) (fun k => blk2_apply m c t n k hn n' e1)
    (blk3_apply m c t n hn n' e1)

/-- Column `n` of the array is in the block of point `n / 512`. -/
theorem covered (i : S3072x6784.Idx) : ∃ t : Fin cfg0.N, (cfg0.win 4).flush t = true ∧ i ∈ ((cfg0.win 4).blk t).view.set := by
  have h0 : (i 0 : ℕ) < 3072 := (i 0).isLt
  have h1 : (i 1 : ℕ) < 6784 := (i 1).isLt
  have hN : grid0.N = 14 := by decide
  refine ⟨⟨(i 1 : ℕ) / 512, by show _ < grid0.N; rw [hN]; omega⟩, flush0_4 _, ?_⟩
  generalize ht : (⟨(i 1 : ℕ) / 512, _⟩ : Fin cfg0.N) = t
  have hv : t.val = (i 1 : ℕ) / 512 := by rw [← ht]
  show i ∈ ((View.whole main_v3).slice (win0_4.rect t)).set
  rw [View.set_slice_whole, Rect.mem_set_unit]
  refine Fin.forall_fin_two.mpr ⟨?_, ?_⟩
  · show win0_4.index t 0 * win0_4.size 0 ≤ (i 0 : ℕ) ∧ (i 0 : ℕ) < win0_4.index t 0 * win0_4.size 0 + win0_4.xsize (grid0.coords t) 0
    rw [(starts t).2.2.2.2.1, (sizes t).2.2.2.2.1]; omega
  · show win0_4.index t 1 * win0_4.size 1 ≤ (i 1 : ℕ) ∧ (i 1 : ℕ) < win0_4.index t 1 * win0_4.size 1 + win0_4.xsize (grid0.coords t) 1
    rw [(starts t).2.2.2.2.2, (sizes t).2.2.2.2.2, hv]; omega

/-- THE ARRAY the region leaves. -/
theorem final (c : Dev nD) : (dats m 0 c).arrAt 4 cfg0.N = whole m c :=
  (dats m 0 c).arrAt_eq_of_cover 4 (whole m c) (fun t _ => flushed_eq m c t) covered

/-! ## The host lines around the region -/

/-- A reshape that drops a leading axis of length one reads the element behind it. -/
theorem drop_apply {a b : ℕ} (v : (⟨3, ![1, a, b]⟩ : Shape).Idx → EReal) (h : (⟨3, ![1, a, b]⟩ : Shape).ShapeCasts ⟨2, ![a, b]⟩)
    (r : Fin a) (k : Fin b) : shapeCast ⟨2, ![a, b]⟩ v h (ix2 r k) = v (ix3 0 r k) :=
  (shapeCast_dropUnit_apply ![a, b] v h (ix2 r k)).trans
    (congrArg v (funext fun d => by match d with | ⟨0, _⟩ => rfl | ⟨1, _⟩ => rfl | ⟨2, _⟩ => rfl))

/-- The region finds `x` without its leading axis, -/
theorem V_main_v0 (c : Dev nD) (r : Fin 3072) (k : Fin 6400) :
    V m c main_v0 (ix2 r k) = m ((c : Thread nD τ).loc main_arg0) (ix3 0 r k) := by
  have e : V m c main_v0 = shapeCast S3072x6400 (m ((c : Thread nD τ).loc main_arg0)) shapeCasts_S1x3072x6400_S3072x6400 := by
    simp only [V, V0, hostOps0, List.flatten_cons, List.flatten_nil, List.append_nil, StableHlo.after_cons, StableHlo.after_nil]
    rw [StableHlo.reshape_result_ne _ _ _ _ _ _ _ (by decide), StableHlo.reshape_result_ne _ _ _ _ _ _ _ (by decide),
      StableHlo.reshape_result]
    rfl
  rw [e]
  exact drop_apply _ _ r k

/-- and `x_scale` likewise; -/
theorem V_main_v1 (c : Dev nD) (r : Fin 3072) :
    V m c main_v1 (ix2 r 0) = m ((c : Thread nD τ).loc main_arg1) (ix3 0 r 0) := by
  have e : V m c main_v1 = shapeCast S3072x1 (m ((c : Thread nD τ).loc main_arg1)) shapeCasts_S1x3072x1_S3072x1 := by
    simp only [V, V0, hostOps0, List.flatten_cons, List.flatten_nil, List.append_nil, StableHlo.after_cons, StableHlo.after_nil]
    rw [StableHlo.reshape_result_ne _ _ _ _ _ _ _ (by decide), StableHlo.reshape_result,
      StableHlo.reshape_result_ne _ _ _ _ _ _ _ (by decide)]
    rfl
  rw [e]
  exact drop_apply _ _ r 0

/-- `w_scale` it finds with one. -/
theorem V_main_v2 (c : Dev nD) (n : Fin 6784) :
    V m c main_v2 (ix2 0 n) = m ((c : Thread nD τ).loc main_arg3) (ix1 n) := by
  have e : V m c main_v2 = shapeCast S1x6784 (m ((c : Thread nD τ).loc main_arg3)) shapeCasts_S6784_S1x6784 := by
    simp only [V, V0, hostOps0, List.flatten_cons, List.flatten_nil, List.append_nil, StableHlo.after_cons, StableHlo.after_nil]
    rw [StableHlo.reshape_result, StableHlo.reshape_result_ne _ _ _ _ _ _ _ (by decide),
      StableHlo.reshape_result_ne _ _ _ _ _ _ _ (by decide)]
    rfl
  rw [e]
  exact (shapeCast_addUnit_apply ![6784] _ shapeCasts_S6784_S1x6784 (ix2 0 n)).trans
    (congrArg _ (funext fun d => by match d with | ⟨0, _⟩ => rfl))

/-- The line after the region gives the array its leading axis back: the result is the formula of the arguments. -/
theorem result_eq (c : Dev nD) :
    Pipeline.afterTail₀ cfgs (dats m) 0 (V0 m) [hostOps1] c main_v4
      = linear (m ((c : Thread nD τ).loc main_arg0)) (m ((c : Thread nD τ).loc main_arg1))
          (m ((c : Thread nD τ).loc main_arg2)) (m ((c : Thread nD τ).loc main_arg3)) := by
  have e : Pipeline.afterTail₀ cfgs (dats m) 0 (V0 m) [hostOps1] c main_v4
      = shapeCast S1x3072x6784 (whole m c) shapeCasts_S3072x6784_S1x3072x6784 := by
    unfold Pipeline.afterTail₀
    simp only [hostOps1, List.flatten_cons, List.flatten_nil, List.append_nil, StableHlo.after_cons, StableHlo.after_nil]
    rw [StableHlo.reshape_result]
    have h := Pipeline.withArrays_arr spec0 launch0.win.arr_inj c (V0 m c) (fun w => (dats m 0 c).arrAt w cfg0.N) 4
    rw [final] at h
    exact congrArg (fun v => shapeCast S1x3072x6784 v shapeCasts_S3072x6784_S1x3072x6784) h
  rw [e]
  funext i
  refine (shapeCast_addUnit_apply ![3072, 6784] _ shapeCasts_S3072x6784_S1x3072x6784 i).trans ?_
  have hx := fun k => V_main_v0 m c (i 1) k
  have hxs := V_main_v1 m c (i 1)
  have hws := V_main_v2 m c (i 2)
  show entry (V m c main_v0 : S3072x6400.Idx → EReal) (V m c main_v1 : S3072x1.Idx → EReal)
    (V m c main_arg2 : S6784x6400.Idx → EReal) (V m c main_v2 : S1x6784.Idx → EReal) (i 1) (i 2) = _
  unfold entry linear
  rw [hxs, hws, V_main_arg2, Finset.sum_congr rfl fun k _ => by rw [hx k]]

/-! ## The run, read -/

/-- THE VALUE: the idealized kernel ends with the formula in its result and its arguments unchanged. -/
theorem run : θ_run defs (onTc (τ := τ) (main (F := Ideal))) ⟨m, fun _ => 0, ρ⟩ fun r => ∀ c : Dev nD,
      r.2.mem ((c.tc : Thread nD τ).loc main_v4)
          = linear (m ((c : Thread nD τ).loc main_arg0)) (m ((c : Thread nD τ).loc main_arg1))
              (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨((h.1.1 c).2 main_v4 (Pipeline.mem_restRefs_of main_v4 (by decide) (by decide))).trans (result_eq m c), h.2.1 c⟩)
    (θ_run_and (run_main m ρ) (frame m ρ))

end Cert.KernelIdeal.Body

end
-- ==== Proof.ReferenceValue.lean ====
/-
  What the reference computes, over the extended reals.

  The reference is one kernel over whole arrays: it multiplies `x` by the transpose of `w`, scales by `x_scale` and
  `w_scale`, applies the tanh form of gelu and narrows to bf16. Read at an index, its result is `Cert.Linear.linear`.
-/
module

public import proofs.«01_k».proof.Proof.Chunk
public import proofs.«01_k».proof.Proof.Gen.ReferenceIdeal.Value
public import Idealize.ShloMosaic.Lib.ValueIdx
public import Idealize.ShloMosaic.Lib.Pipeline.Value

@[expose] public section

set_option maxRecDepth 16384

noncomputable section

namespace Cert.ReferenceIdeal.Linear

open Cert.ReferenceIdeal Cert.ReferenceIdeal.Gen
open Idealize.ShloMosaic Idealize.ShloMosaic.TcCoe
open Idealize.ShloMosaic.ValueIdx
open Cert.Linear

/-- The dimension numbers of the reference's product: both operands are contracted on their last axis. -/
abbrev D := dot_S1x3072x6400_S6784x6400_S1x3072x6784_2_1_01_0_n_n

theorem lhs_0 (j : S1x3072x6784.Idx) (k : D.contr.Idx) : (D.lhsIdx j k 0 : ℕ) = 0 :=
  Nat.lt_one_iff.mp (D.lhsIdx j k 0).isLt
theorem lhs_1 (j : S1x3072x6784.Idx) (k : D.contr.Idx) : (D.lhsIdx j k 1 : ℕ) = j 1 := by
  simp [DotDims.lhsIdx, D, dot_S1x3072x6400_S6784x6400_S1x3072x6784_2_1_01_0_n_n]; rfl
theorem lhs_2 (j : S1x3072x6784.Idx) (k : D.contr.Idx) : (D.lhsIdx j k 2 : ℕ) = k ⟨0, by decide⟩ := by
  simp [DotDims.lhsIdx, D, dot_S1x3072x6400_S6784x6400_S1x3072x6784_2_1_01_0_n_n]; rfl
theorem rhs_0 (j : S1x3072x6784.Idx) (k : D.contr.Idx) : (D.rhsIdx j k 0 : ℕ) = j 2 := by
  simp [DotDims.rhsIdx, D, dot_S1x3072x6400_S6784x6400_S1x3072x6784_2_1_01_0_n_n]; rfl
theorem rhs_1 (j : S1x3072x6784.Idx) (k : D.contr.Idx) : (D.rhsIdx j k 1 : ℕ) = k ⟨0, by decide⟩ := by
  simp [DotDims.rhsIdx, D, dot_S1x3072x6400_S6784x6400_S1x3072x6784_2_1_01_0_n_n]; rfl

/-- The contraction's index is a number below 6400. -/
abbrev contrK : D.contr.Idx ≃ Fin 6400 := contrEquiv1 D 6400 (by rfl) (by rfl)

/-- The product at an index: a row of `x` times a row of `w`. -/
theorem product_apply (x : FVec Ideal S1x3072x6400 .fp8e4m3) (w : FVec Ideal S6784x6400 .fp8e4m3) (j : S1x3072x6784.Idx) :
    FloatOps.matmul D none x w (constant S1x3072x6784 .f32 0x00000000#32) j
      = ∑ k : Fin 6400, x (ix3 0 (j 1) k) * w (ix2 (j 2) k) := by
  rw [Ideal.matmul_constant_zero_apply, ← Equiv.sum_comp contrK.symm]
  refine Finset.sum_congr rfl fun k _ => ?_
  have hl : D.lhsIdx j (contrK.symm k) = ix3 0 (j 1) k := funext fun a => Fin.ext (by
    match a with
    | ⟨0, _⟩ => exact lhs_0 j _
    | ⟨1, _⟩ => exact lhs_1 j _
    | ⟨2, _⟩ => exact (lhs_2 j _).trans (contrEquiv1_symm_val D 6400 _ _ k))
  have hr : D.rhsIdx j (contrK.symm k) = ix2 (j 2) k :=
    Shape.idx_ext₂ (rhs_0 j _) ((rhs_1 j _).trans (contrEquiv1_symm_val D 6400 _ _ k))
  rw [hl, hr]
  rfl

/-- The reference's result is the formula. -/
theorem result_eq (x : Vec Ideal S1x3072x6400 .fp8e4m3) (xs : Vec Ideal S1x3072x1 .f32)
    (w : Vec Ideal S6784x6400 .fp8e4m3) (ws : Vec Ideal S6784 .f32) :
    Value.G4 (F := Ideal) x xs w ws = linear x xs w ws := by
  funext j
  have hws : shapeCast S1x1x6784 ws shapeCasts_S6784_S1x1x6784 (ix3 0 0 (j 2)) = ws (ix1 (j 2)) :=
    shapeCast_apply ws _ _ _ (by
      rw [Shape.rowMajor_val_one, Shape.rowMajor_val_three]
      show (j 2 : ℕ) = (0 * 1 + 0) * 6784 + (j 2 : ℕ)
      omega)
  have bxs : broadcastTo S1x3072x6784 xs broadcasts_S1x3072x1_S1x3072x6784 j = xs (ix3 0 (j 1) 0) :=
    broadcastTo_apply xs _ j _ fun a => by match a with | ⟨0, _⟩ => rfl | ⟨1, _⟩ => rfl | ⟨2, _⟩ => rfl
  have bws : broadcastTo S1x3072x6784 (shapeCast S1x1x6784 ws shapeCasts_S6784_S1x1x6784) broadcasts_S1x1x6784_S1x3072x6784 j
      = ws (ix1 (j 2)) :=
    (broadcastTo_apply _ _ j (ix3 0 0 (j 2)) fun a => by match a with | ⟨0, _⟩ => rfl | ⟨1, _⟩ => rfl | ⟨2, _⟩ => rfl).trans hws
  have hp := product_apply x w j
  unfold linear
  rw [← hp, ← bxs, ← bws]
  rfl

end Cert.ReferenceIdeal.Linear

end
-- ==== Proof.lean ====
/-
  The proof of `Cert.Claim`: the kernel, its idealization and the reference run to the end with their arguments unchanged
  and every counter at zero; the idealization follows the kernel; and the idealized kernel and the idealized
  reference end with the same result.

    `Proof/KernelFrame.lean`     the kernel's run, at any floats
    `Proof/Chunk.lean`           the formula, and what one chunk of the body computes
    `Proof/IdealBody.lean`       what the body leaves in its output's buffer
    `Proof/IdealRun.lean`        the idealized kernel's run
    `Proof/KernelValue.lean`     its result array is the formula of its arguments
    `Proof/ReferenceValue.lean`  the reference's result is the same formula
-/
module

public import proofs.«01_k».proof.Proof.KernelFrame
public import proofs.«01_k».proof.Proof.KernelValue
public import proofs.«01_k».proof.Proof.ReferenceValue
public import proofs.«01_k».proof.Proof.Gen.ReferenceIdeal.Value
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import Idealize.ShloMosaic.Adequacy
public import Idealize.ShloMosaic.Init

@[expose] public section

noncomputable section

namespace Cert.Proof

open Idealize.ShloMosaic Idealize.SL.Sem Cert.Kernel

/-- From equal arguments the idealized kernel and the idealized reference end with the same result: the formula of the arguments. -/
theorem algebraic : Cert.algebraic_KernelIdeal_ReferenceIdeal (hKernelIdeal := Cert.KernelIdeal.Gen.facts)
    (hReferenceIdeal := Cert.ReferenceIdeal.Gen.facts) := fun m g m' g' _ heq =>
  ⟨_, Cert.KernelIdeal.Body.run m g,
    (θ_run _ _ _).mono (fun _ h c => ⟨(h c).1.trans (by
        obtain ⟨h0, h1, h2, h3⟩ := heq c
        exact (Cert.ReferenceIdeal.Linear.result_eq _ _ _ _).trans (by rw [h0, h1, h2, h3])), (h c).2⟩)
      (Cert.ReferenceIdeal.Value.run m' g')⟩

theorem claim : Cert.Claim := ⟨Cert.Kernel.Gen.facts, Cert.KernelIdeal.Gen.facts, Cert.ReferenceIdeal.Gen.facts,
  fun m g _ => Cert.Kernel.Body.frame m g,
  fun m g _ => Cert.KernelIdeal.Body.frame m g,
  fun m g _ => Cert.ReferenceIdeal.Gen.frame m g,
  trivial,
  algebraic⟩

end Cert.Proof

end
